-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centers_are_the_grid [hPre_centers_are_the_grid : Cert.Pre_centers_are_the_grid.Facts] (m : (ℓ : Loc Cert.KernelIdeal.nD Cert.KernelIdeal.τ Cert.KernelIdeal.sig) → Buf (Elt Ideal) ℓ) : Prop :=
  ∀ c : Dev Cert.KernelIdeal.nD,
    (Cert.Pre_centers_are_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centers_are_the_grid [hPre_centers_are_the_grid : Cert.Pre_centers_are_the_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centers_are_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_centers_are_the_grid [hKernelIdeal : Cert.KernelIdeal.Facts] [hPre_centers_are_the_grid : Cert.Pre_centers_are_the_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centers_are_the_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_centers_are_the_grid [hReferenceIdeal : Cert.ReferenceIdeal.Facts] [hPre_centers_are_the_grid : Cert.Pre_centers_are_the_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centers_are_the_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_centers_are_the_grid [hKernelIdeal : Cert.KernelIdeal.Facts] [hReferenceIdeal : Cert.ReferenceIdeal.Facts] [hPre_centers_are_the_grid : Cert.Pre_centers_are_the_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centers_are_the_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_centers_are_the_grid : Cert.Pre_centers_are_the_grid.Facts),
    quiescent_Kernel (hKernel := hKernel)
    ∧ quiescent_KernelIdeal (hKernelIdeal := hKernelIdeal)
    ∧ quiescent_KernelIdeal_pre_centers_are_the_grid (hKernelIdeal := hKernelIdeal) (hPre_centers_are_the_grid := hPre_centers_are_the_grid)
    ∧ quiescent_ReferenceIdeal (hReferenceIdeal := hReferenceIdeal)
    ∧ quiescent_ReferenceIdeal_pre_centers_are_the_grid (hReferenceIdeal := hReferenceIdeal) (hPre_centers_are_the_grid := hPre_centers_are_the_grid)
    ∧ preserves_Kernel_KernelIdeal
    ∧ algebraic_KernelIdeal_ReferenceIdeal_pre_centers_are_the_grid (hKernelIdeal := hKernelIdeal) (hReferenceIdeal := hReferenceIdeal) (hPre_centers_are_the_grid := hPre_centers_are_the_grid)
-- ==== Pre_centers_are_the_grid.lean ====
abbrev S8x3x256x256 : Shape := ⟨4, ![8, 3, 256, 256]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S8x3x256x256 .f32) (main_arg1 : FVec F S256 .f32) : IVec S256 1 :=
  let main_v0 : IVec S256 32 := iotaInDim S256 32 0
  let main_v1 : FVec F S256 .f32 := sitofp .f32 main_v0
  let main_cst : FVec F S_ .f32 := constant S_ .f32 0x437F0000#32
  let main_v2 : FVec F S256 .f32 := broadcastInDim S256 ![] bcast_S_S256 main_cst
  let main_v3 : FVec F S256 .f32 := Host.divf main_v1 main_v2
  let main_v4 : IVec S256 1 := cmpf .oeq main_arg1 main_v3
  main_v4
-- ==== Kernel.lean ====
abbrev S8x3x256x256 : Shape := ⟨4, ![8, 3, 256, 256]⟩
abbrev S256 : Shape := ⟨1, ![256]⟩
abbrev S8x1536x128 : Shape := ⟨3, ![8, 1536, 128]⟩
abbrev S8x1x256 : Shape := ⟨3, ![8, 1, 256]⟩
abbrev S1x768x128 : Shape := ⟨3, ![1, 768, 128]⟩
abbrev S1x1x256 : Shape := ⟨3, ![1, 1, 256]⟩
abbrev S256x8x128 : Shape := ⟨3, ![256, 8, 128]⟩
abbrev S1x8x128 : Shape := ⟨3, ![1, 8, 128]⟩
abbrev S8x128 : Shape := ⟨2, ![8, 128]⟩
abbrev S16x8x128 : Shape := ⟨3, ![16, 8, 128]⟩
abbrev S256x128 : Shape := ⟨2, ![256, 128]⟩
abbrev S8x256 : Shape := ⟨2, ![8, 256]⟩

abbrev nBuf : Space → Nat
  | .hbm => 5
  | .vmem => 5
  | .smem => 0
  | _ => 0

abbrev bufTy : (tb : Table) → Fin (tcTables nBuf tb) → BufTy
  | .hbm, ⟨0, _⟩ => ⟨S8x3x256x256, .f32⟩
  | .hbm, ⟨1, _⟩ => ⟨S256, .f32⟩
  | .hbm, ⟨2, _⟩ => ⟨S8x1536x128, .f32⟩
  | .hbm, ⟨3, _⟩ => ⟨S8x1x256, .f32⟩
  | .hbm, ⟨4, _⟩ => ⟨S8x256, .f32⟩
  | .local _ .vmem, ⟨0, _⟩ => ⟨S1x768x128, .f32⟩
  | .local _ .vmem, ⟨1, _⟩ => ⟨S1x768x128, .f32⟩
  | .local _ .vmem, ⟨2, _⟩ => ⟨S1x1x256, .f32⟩
  | .local _ .vmem, ⟨3, _⟩ => ⟨S1x1x256, .f32⟩
  | .local _ .vmem, ⟨4, _⟩ => ⟨S256x8x128, .f32⟩
  | _, _ => ⟨S8x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond33 (i : grid0.Coords) : BitVec 1 :=
  let arg1 : BitVec 32 := BitVec.ofNat 32 (i 1).val
  let c1_i32 : BitVec 32 := 1#32
  let v13008 : BitVec 1 := Scalar.cmpi .eq arg1 c1_i32
  let v13009 : BitVec 32 := Scalar.extui v13008
  let c0_i32_1998 : BitVec 32 := 0#32
  let v13010 : BitVec 1 := Scalar.cmpi .ne v13009 c0_i32_1998
  v13010

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S8x3x256x256 : Shape := ⟨4, ![8, 3, 256, 256]⟩
abbrev S256 : Shape := ⟨1, ![256]⟩
abbrev S_ : Shape := ⟨0, ![]⟩
abbrev S8x196608x1 : Shape := ⟨3, ![8, 196608, 1]⟩
abbrev S1x1x256 : Shape := ⟨3, ![1, 1, 256]⟩
abbrev S8x196608x256 : Shape := ⟨3, ![8, 196608, 256]⟩
abbrev S8x256 : Shape := ⟨2, ![8, 256]⟩

abbrev nBuf : Space → Nat
  | .hbm => 21
  | .vmem => 0
  | .smem => 0
  | _ => 0

abbrev bufTy : (tb : Table) → Fin (tcTables nBuf tb) → BufTy
  | .hbm, ⟨0, _⟩ => ⟨S8x3x256x256, .f32⟩
  | .hbm, ⟨1, _⟩ => ⟨S256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8x196608x1, .f32⟩
  | .hbm, ⟨6, _⟩ => ⟨S1x1x256, .f32⟩
  | .hbm, ⟨7, _⟩ => ⟨S8x196608x256, .f32⟩
  | .hbm, ⟨8, _⟩ => ⟨S8x196608x256, .f32⟩
  | .hbm, ⟨9, _⟩ => ⟨S8x196608x256, .f32⟩
  | .hbm, ⟨10, _⟩ => ⟨S8x196608x256, .f32⟩
  | .hbm, ⟨11, _⟩ => ⟨S8x196608x256, .f32⟩
  | .hbm, ⟨12, _⟩ => ⟨S8x196608x256, .f32⟩
  | .hbm, ⟨13, _⟩ => ⟨S_, .f32⟩
  | .hbm, ⟨14, _⟩ => ⟨S8x196608x256, .f32⟩
  | .hbm, ⟨15, _⟩ => ⟨S8x196608x256, .f32⟩
  | .hbm, ⟨16, _⟩ => ⟨S_, .f32⟩
  | .hbm, ⟨17, _⟩ => ⟨S8x196608x256, .f32⟩
  | .hbm, ⟨18, _⟩ => ⟨S8x196608x256, .f32⟩
  | .hbm, ⟨19, _⟩ => ⟨S_, .f32⟩
  | .hbm, ⟨20, _⟩ => ⟨S8x256, .f32⟩
  | _, _ => ⟨S8x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Pieces.lean ====
/-
  What one grid step of the kernel computes, written once for all sixteen passes over the bins.

  A step loads 96 slabs of 8 rows, scales each by 255, and for every group of sixteen bins adds up the clamped
  distances of the scaled slabs from the bins' numbers. The first step of an image stores the sixteen partial sums into
  the scratch buffer; the second adds its own to what is there. The sixteen passes differ in one constant, the group's
  first bin, so the sums are stated here as one function of the pass and the slabs, and the stores as one list built by
  recursion on the pass.
-/
module

public import proofs.«01_k».proof.Proof.Gen.KernelIdeal.Frame
public import Idealize.ShloMosaic.Lib.Pipeline.Value

@[expose] public section

noncomputable section

namespace Cert.KernelIdeal.Hist

open Cert.KernelIdeal Cert.KernelIdeal.Gen Idealize.ShloMosaic Idealize.ShloMosaic.TcCoe Idealize.SL.Sem

variable {F : FTy → Type} [FloatOps F]

/-! ## The sums of one pass -/

/-- The 32-bit pattern of `16 * n` as a float, for the sixteen passes `n = 0 … 15`. -/
def baseBits (n : ℕ) : BitVec 32 :=
  [0x00000000#32, 0x41800000#32, 0x42000000#32, 0x42400000#32, 0x42800000#32, 0x42A00000#32, 0x42C00000#32,
    0x42E00000#32, 0x43000000#32, 0x43100000#32, 0x43200000#32, 0x43300000#32, 0x43400000#32, 0x43500000#32,
    0x43600000#32, 0x43700000#32].getD n 0#32

/-- The numbers of the sixteen bins of pass `n`, each repeated over a slab. -/
def bins (n : ℕ) : FVec F S16x8x128 .f32 :=
  addf (sitofp .f32 (iota .tc S16x8x128 32 [0] iota_S16x8x128_d0_w32))
    (broadcast S16x8x128 (Scalar.ofBits .f32 (baseBits n)))

/-- A slab with 0 subtracted, times 255. -/
def scaled (v : Vec F S1x8x128 .f32) : FVec F S8x128 .f32 :=
  mulf (subf (shapeCast S8x128 v shapeCasts_S1x8x128_S8x128) (broadcast S8x128 (Scalar.ofBits .f32 0x00000000#32)))
    (broadcast S8x128 (Scalar.ofBits .f32 0x437F0000#32))

/-- The clamped distances `min(|t - b|, 1)` of a scaled slab from the bins `b`. -/
def clamped (t : FVec F S8x128 .f32) (b : FVec F S16x8x128 .f32) : FVec F S16x8x128 .f32 :=
  minimumf
    (absf (subf (broadcastTo S16x8x128
      (shapeCast S1x8x128 (shapeCast S1x8x128 t shapeCasts_S8x128_S1x8x128) shapeCasts_S1x8x128_S1x8x128)
      broadcasts_S1x8x128_S16x8x128) b))
    (broadcast S16x8x128 (Scalar.ofBits .f32 0x3F800000#32))

/-- The clamped distances of slabs `0 … k` added up in order. -/
def partialSum (slab : ℕ → Vec F S1x8x128 .f32) (b : FVec F S16x8x128 .f32) : ℕ → FVec F S16x8x128 .f32
  | 0 => clamped (scaled (slab 0)) b
  | k + 1 => addf (partialSum slab b k) (clamped (scaled (slab (k + 1))) b)

/-! ## The stores of one step -/

/-- Rows `8 n … 8 n + 7` of an input block lie inside it. -/
theorem slab_inb (n : ℕ) : ∀ a, (![0, 8 * (n % 96), 0] : Fin 3 → ℕ) a + S1x8x128.size a ≤ S1x768x128.size a := by
  have : n % 96 < 96 := Nat.mod_lt _ (by decide)
  intro a
  fin_cases a
  · show 0 + 1 ≤ 1; omega
  · show 8 * (n % 96) + 8 ≤ 768; omega
  · show 0 + 128 ≤ 128; omega

/-- Bins `16 n … 16 n + 15` lie inside the scratch buffer. -/
theorem group_inb (n : ℕ) : ∀ a, (![16 * (n % 16), 0, 0] : Fin 3 → ℕ) a + S16x8x128.size a ≤ S256x8x128.size a := by
  have : n % 16 < 16 := Nat.mod_lt _ (by decide)
  intro a
  fin_cases a
  · show 16 * (n % 16) + 16 ≤ 256; omega
  · show 0 + 8 ≤ 8; omega
  · show 0 + 128 ≤ 128; omega

/-- The part of the scratch buffer that pass `n` stores into. -/
abbrev groupRect (n : ℕ) : Rect S256x8x128 := Rect.unit ![16 * (n % 16), 0, 0] S16x8x128.size (group_inb n)

/-- The rows of an input block that make up slab `n`. -/
abbrev slabRect (n : ℕ) : Rect S1x768x128 := Rect.unit ![0, 8 * (n % 96), 0] S1x8x128.size (slab_inb n)

/-- The load of slab `n` from an input block held in a staging buffer. -/
def loadSlab (arg2 : Memref sig .tc .vmem S1x768x128 .f32) (harg2 : arg2.IsWhole) (x0 : Vec F S1x768x128 .f32) (n : ℕ) :
    Vec F S1x8x128 .f32 :=
  View.readAt (Elt F) arg2.view (slabRect n).toLoadRect (harg2.unread x0)

/-- The load of group `n` from the scratch buffer. -/
def loadGroup (arg4 : Memref sig .tc .vmem S256x8x128 .f32) (harg4 : arg4.IsWhole) (xs : Vec F S256x8x128 .f32) (n : ℕ) :
    Vec F S16x8x128 .f32 :=
  View.readAt (Elt F) arg4.view (groupRect n).toLoadRect (harg4.unread xs)

/-- The stores of the first `k` passes into the scratch buffer, the latest first, where pass `n` stores `pay n`. -/
def stores (pay : ℕ → FVec F S16x8x128 .f32) : ℕ → List (View.Piece (Elt F) S256x8x128 .f32)
  | 0 => []
  | k + 1 => ⟨groupRect k, shapeCast S16x8x128 (pay k) shapeCasts_S16x8x128_S16x8x128⟩ :: stores pay k

/-- The partial sums a step computes from its input block, held in a staging buffer. -/
def stepSums (arg2 : Memref sig .tc .vmem S1x768x128 .f32) (harg2 : arg2.IsWhole) (x0 : Vec F S1x768x128 .f32) (n : ℕ) :
    FVec F S16x8x128 .f32 :=
  partialSum (loadSlab arg2 harg2 x0) (bins n) 95

variable (m : (ℓ : Loc nD τ sig) → Buf (Elt F) ℓ)

/-- The stores of a second step (an odd point) into the scratch buffer, which held `xs`: to each group of `xs` the step's
    own partial sums are added. -/
def oddStores (c : Dev nD) (t : Fin cfg0.N) (xs : Vec F S256x8x128 .f32) : List (View.Piece (Elt F) S256x8x128 .f32) :=
  stores (fun n => addf (loadGroup scM0_0 (Memref.isWhole_whole _) xs n)
    (stepSums (ms0_0 t) (hs0_0 t) (iblk m c 0 t) n)) 16

/-- What a first step (an even point) leaves in the scratch buffer: its own partial sums. -/
theorem scratch_even (c : Dev nD) (t : Fin cfg0.N) (h : t.val % 2 = 0) :
    (outsAt0 m c t.val t.isLt).2 = View.canon (stores (stepSums (ms0_0 t) (hs0_0 t) (iblk m c 0 t)) 16) := by
  have h' : ¬t.val % 2 = 1 := by omega
  rw [outsAt0_A m c t h h' h h' h h' h h' h h' h h' h h' h h' h h' h h' h h' h h' h h' h h' h h' h h' h']
  unfold sout0_A_0
  rw [View.read_writes_junk_eq_canon]
  refine congrArg View.canon ?_
  sl_kernel_rfl

/-- What a second step (an odd point) leaves in the scratch buffer, and in the output block, which it computes from the
    scratch buffer so left. -/
theorem contents_odd (c : Dev nD) (t t' : Fin cfg0.N) (h : t.val % 2 = 1) (ht : t'.val = t.val - 1) :
    (outsAt0 m c t.val t.isLt).2 = View.canon (oddStores m c t (outsAt0 m c t'.val t'.isLt).2)
      ∧ (outsAt0 m c t.val t.isLt).1 = k0_pay4 (View.canon (oddStores m c t (outsAt0 m c t'.val t'.isLt).2)) := by
  obtain ⟨t', ht'⟩ := t'
  obtain rfl : t' = t.val - 1 := ht
  have h' : ¬t.val % 2 = 0 := by omega
  rw [outsAt0_B m c t h' h h' h h' h h' h h' h h' h h' h h' h h' h h' h h' h h' h h' h h' h h' h h' h h]
  unfold sout0_B_0 out0_B_1
  rw [View.read_writes_junk_eq_canon, View.read_writes_junk_eq_canon]
  refine ⟨congrArg View.canon ?_, (congrArg View.canon (a₂ := [⟨Rect.unit ![0, 0, 0] S1x1x256.size
    inb_S1x1x256_S1x1x256_0_0_0, k0_pay4 (scM0_0.view.readCov (oddStores m c t (outsAt0 m c (t.val - 1) ht').2)
      (Rect.unit ![0, 0, 0] S256x8x128.size inb_S256x8x128_S256x8x128_0_0_0).toLoadRect)⟩]) ?_).trans ?_⟩
  · sl_kernel_rfl
  · sl_kernel_rfl
  · rw [View.canon_unit_zero (by decide), View.readCov_eq_canon']
    exact congrArg k0_pay4 (View.ld_unit_zero (by decide) inb_S256x8x128_S256x8x128_0_0_0 _)

end Cert.KernelIdeal.Hist
-- ==== Proof.Step.lean ====
/-
  One grid step read at a bin, a row and a lane, over the extended reals.
-/
module

public import proofs.«01_k».proof.Proof.Pieces
public import Idealize.ShloMosaic.Lib.Pointwise
public import Idealize.ShloMosaic.Lib.IdealHost
public import Idealize.ShloMosaic.Lib.WholeRead

@[expose] public section

noncomputable section

namespace Cert.KernelIdeal.Hist

open Cert.KernelIdeal Cert.KernelIdeal.Gen Idealize.ShloMosaic Idealize.ShloMosaic.TcCoe Idealize.SL.Sem
open scoped BigOperators

/-- The clamped distance of pixel `x` from bin `b`, in bin widths: `min(|255 x - b|, 1)`. -/
def dist (x : EReal) (b : ℕ) : EReal :=
  min (max (x * ((255 : ℝ) : EReal) - ((b : ℝ) : EReal)) (-(x * ((255 : ℝ) : EReal) - ((b : ℝ) : EReal)))) 1

/-- The constant 255. -/
theorem ofBits_255 : Ideal.ofBits .f32 0x437F0000#32 = ((255 : ℝ) : EReal) := by
  simp [Ideal.ofBits, Ideal.ieee, -EReal.coe_mul]; norm_num

/-- The first bin of pass `n` is `16 n`. -/
theorem ofBits_base (n : Fin 16) : Ideal.ofBits .f32 (baseBits n.val) = (((16 * n.val : ℕ) : ℝ) : EReal) := by
  fin_cases n <;> simp [baseBits, Ideal.ofBits, Ideal.ieee, -EReal.coe_mul] <;> norm_num

/-- Entry `i` of pass `n`'s bin numbers is `16 n + i`. -/
theorem bins_apply (n i : Fin 16) (r : Fin 8) (l : Fin 128) :
    (bins n.val : FVec Ideal S16x8x128 .f32) (ix3 i r l) = (((16 * n.val + i.val : ℕ) : ℝ) : EReal) := by
  have hi : (BitVec.ofNat 32 i.val).toInt = (i.val : ℤ) := by fin_cases i <;> rfl
  pointwise [bins]
  rw [ofBits_base]
  show (((BitVec.ofNat 32 i.val).toInt : ℝ) : EReal) + _ = _
  rw [hi, ← EReal.coe_add]
  congr 1
  push_cast
  ring

/-- A scaled slab is the slab times 255. -/
theorem scaled_apply (v : Vec Ideal S1x8x128 .f32) (r : Fin 8) (l : Fin 128) :
    scaled v (ix2 r l) = v (ix3 0 r l) * ((255 : ℝ) : EReal) := by
  pointwise [scaled, ofBits_255]

/-- The clamped distances of a slab at an entry. -/
theorem clamped_apply (t : FVec Ideal S8x128 .f32) (b : FVec Ideal S16x8x128 .f32) (i : Fin 16) (r : Fin 8) (l : Fin 128) :
    clamped t b (ix3 i r l) = min (max (t (ix2 r l) - b (ix3 i r l)) (-(t (ix2 r l) - b (ix3 i r l)))) 1 := by
  pointwise [clamped]
  rfl

/-- The clamped distances added up in order are their sum. -/
theorem partialSum_apply (slab : ℕ → Vec Ideal S1x8x128 .f32) (b : FVec Ideal S16x8x128 .f32) (k : ℕ) (j : S16x8x128.Idx) :
    partialSum slab b k j = ∑ s ∈ Finset.range (k + 1), clamped (scaled (slab s)) b j := by
  induction k with
  | zero => rw [Finset.sum_range_one]; rfl
  | succ k ih => rw [Finset.sum_range_succ, ← ih]; rfl

/-- Slab `s` of an input block. -/
theorem loadSlab_apply (arg2 : Memref sig .tc .vmem S1x768x128 .f32) (harg2 : arg2.IsWhole) (x0 : Vec Ideal S1x768x128 .f32)
    (s : Fin 96) (r : Fin 8) (l : Fin 128) (q : Fin 768) (hq : q.val = 8 * s.val + r.val) :
    loadSlab arg2 harg2 x0 s.val (ix3 0 r l) = x0 (ix3 0 q l) := by
  unfold loadSlab
  rw [harg2.readAt_unread]
  congr 1
  funext a
  apply Fin.ext
  have hs : s.val % 96 = s.val := Nat.mod_eq_of_lt s.isLt
  fin_cases a
  · rfl
  · show 8 * (s.val % 96) + 1 * r.val = q.val
    omega
  · show 0 + 1 * l.val = l.val
    omega

/-- A step's partial sum for pass `n` at an entry: the clamped distances of the 96 pixels on that row and lane of the
    slabs. -/
theorem stepSums_apply (arg2 : Memref sig .tc .vmem S1x768x128 .f32) (harg2 : arg2.IsWhole) (x0 : Vec Ideal S1x768x128 .f32)
    (n i : Fin 16) (r : Fin 8) (l : Fin 128) :
    stepSums arg2 harg2 x0 n.val (ix3 i r l)
      = ∑ s : Fin 96, dist (x0 (ix3 0 (⟨8 * s.val + r.val, by omega⟩ : Fin 768) l)) (16 * n.val + i.val) := by
  unfold stepSums
  rw [partialSum_apply, Finset.sum_range]
  refine Finset.sum_congr rfl fun s _ => ?_
  rw [clamped_apply, scaled_apply, bins_apply, loadSlab_apply arg2 harg2 x0 s r l ⟨8 * s.val + r.val, by omega⟩ rfl]
  rfl

/-! ## The scratch buffer read at a bin -/

section Scratch

variable {F : FTy → Type} [FloatOps F]

/-- The stores of the first `k` passes are those of passes `0 … k - 1`. -/
theorem mem_stores (pay : ℕ → FVec F S16x8x128 .f32) (k : ℕ) (p : View.Piece (Elt F) S256x8x128 .f32) :
    p ∈ stores pay k ↔
      ∃ n < k, p = ⟨groupRect n, shapeCast S16x8x128 (pay n) shapeCasts_S16x8x128_S16x8x128⟩ := by
  induction k with
  | zero => simp [stores]
  | succ k ih =>
    rw [stores, List.mem_cons, ih]
    constructor
    · rintro (h | ⟨n, hn, h⟩)
      · exact ⟨k, Nat.lt_succ_self k, h⟩
      · exact ⟨n, Nat.lt_succ_of_lt hn, h⟩
    · rintro ⟨n, hn, h⟩
      rcases Nat.lt_succ_iff_lt_or_eq.mp hn with hn | rfl
      · exact Or.inr ⟨n, hn, h⟩
      · exact Or.inl h

/-- Entry `(i, r, l)` of group `n` is bin `16 n + i` of the scratch buffer. -/
theorem groupRect_emb (n i : Fin 16) (r : Fin 8) (l : Fin 128) (b : Fin 256) (hb : b.val = 16 * n.val + i.val) :
    (groupRect n.val).emb (ix3 i r l : S16x8x128.Idx) = (ix3 b r l : S256x8x128.Idx) := by
  have hn : n.val % 16 = n.val := Nat.mod_eq_of_lt n.isLt
  funext a
  apply Fin.ext
  fin_cases a
  · show 16 * (n.val % 16) + 1 * i.val = b.val
    omega
  · show 0 + 1 * r.val = r.val
    omega
  · show 0 + 1 * l.val = l.val
    omega

/-- After all sixteen passes, bin `16 n + i` of the scratch buffer holds entry `i` of what pass `n` stored. -/
theorem canon_stores (pay : ℕ → FVec F S16x8x128 .f32) (n i : Fin 16) (r : Fin 8) (l : Fin 128) (b : Fin 256)
    (hb : b.val = 16 * n.val + i.val) :
    View.canon (stores pay 16) (ix3 b r l : S256x8x128.Idx) = pay n.val (ix3 i r l) := by
  let G : S256x8x128.Idx → Elt F .f32 := fun y =>
    pay ((y 0).val / 16) (ix3 (⟨(y 0).val % 16, Nat.mod_lt _ (by decide)⟩ : Fin 16) (y 1 : Fin 8) (y 2 : Fin 128))
  have hG : ∀ (n i : Fin 16) (r : Fin 8) (l : Fin 128) (b : Fin 256), b.val = 16 * n.val + i.val →
      pay n.val (ix3 i r l) = G (ix3 b r l : S256x8x128.Idx) := by
    intro n i r l b hb
    have h1 : b.val / 16 = n.val := by omega
    have h2 : (⟨b.val % 16, Nat.mod_lt _ (by decide)⟩ : Fin 16) = i := Fin.ext (by show b.val % 16 = i.val; omega)
    show _ = pay (b.val / 16) (ix3 (⟨b.val % 16, _⟩ : Fin 16) r l)
    rw [h1, h2]
  rw [hG n i r l b hb]
  refine View.canon_apply_of_pieces G _ (fun p hp x => ?_) _ ⟨_, (mem_stores pay 16 _).mpr ⟨n.val, n.isLt, rfl⟩, ?_⟩
  · obtain ⟨n', hn', rfl⟩ := (mem_stores pay 16 p).mp hp
    obtain ⟨i', r', l', rfl⟩ : ∃ (i' : Fin 16) (r' : Fin 8) (l' : Fin 128), x = (ix3 i' r' l' : S16x8x128.Idx) :=
      ⟨x 0, x 1, x 2, eq_ix3 x⟩
    have hb' : 16 * n' + i'.val < 256 := by omega
    refine (?_ : _ = pay n' (ix3 i' r' l')).trans
      ((hG ⟨n', hn'⟩ i' r' l' ⟨16 * n' + i'.val, hb'⟩ rfl).trans
        (congrArg G (groupRect_emb ⟨n', hn'⟩ i' r' l' ⟨16 * n' + i'.val, hb'⟩ rfl).symm))
    exact congrFun (shapeCast_self _ _) _
  · rw [← groupRect_emb n i r l b hb]
    rw [← Rect.map_emb_univ]
    exact Finset.mem_map_of_mem _ (Finset.mem_univ _)

/-- A load of group `n` reads bins `16 n + i`. -/
theorem loadGroup_apply (arg4 : Memref sig .tc .vmem S256x8x128 .f32) (harg4 : arg4.IsWhole) (xs : Vec F S256x8x128 .f32)
    (n i : Fin 16) (r : Fin 8) (l : Fin 128) (b : Fin 256) (hb : b.val = 16 * n.val + i.val) :
    loadGroup arg4 harg4 xs n.val (ix3 i r l) = xs (ix3 b r l) := by
  unfold loadGroup
  rw [harg4.readAt_unread]
  exact congrArg xs (groupRect_emb n i r l b hb)

end Scratch

/-! ## What the two steps of an image leave -/

variable (m : (ℓ : Loc nD τ sig) → Buf (Elt Ideal) ℓ)

/-- Input block `t`, as the kernel's body sees it. -/
abbrev inBlock (c : Dev nD) (t : Fin cfg0.N) : Vec Ideal S1x768x128 .f32 := iblk m c 0 t

/-- The clamped distances from bin `b` of the 96 pixels that grid step `t` reads on row `r` and lane `l` of its slabs. -/
def laneSum (c : Dev nD) (t : Fin cfg0.N) (b : ℕ) (r : Fin 8) (l : Fin 128) : EReal :=
  ∑ s : Fin 96, dist (inBlock m c t (ix3 0 (⟨8 * s.val + r.val, by omega⟩ : Fin 768) l)) b

/-- A first step leaves its lane sums in the scratch buffer. -/
theorem scratch_even_apply (c : Dev nD) (t : Fin cfg0.N) (h : t.val % 2 = 0) (b : Fin 256) (r : Fin 8) (l : Fin 128) :
    (outsAt0 m c t.val t.isLt).2 (ix3 b r l) = laneSum m c t b.val r l := by
  have hb : b.val = 16 * (b.val / 16) + b.val % 16 := by omega
  rw [scratch_even m c t h, canon_stores _ ⟨b.val / 16, by omega⟩ ⟨b.val % 16, by omega⟩ r l b hb, stepSums_apply]
  rw [← hb]
  rfl

/-- A second step adds its lane sums to the first step's. -/
theorem scratch_odd_apply (c : Dev nD) (t t' : Fin cfg0.N) (h : t.val % 2 = 1) (ht : t'.val = t.val - 1) (b : Fin 256)
    (r : Fin 8) (l : Fin 128) :
    View.canon (oddStores m c t (outsAt0 m c t'.val t'.isLt).2) (ix3 b r l : S256x8x128.Idx)
      = laneSum m c t' b.val r l + laneSum m c t b.val r l := by
  have hb : b.val = 16 * (b.val / 16) + b.val % 16 := by omega
  unfold oddStores
  rw [canon_stores _ ⟨b.val / 16, by omega⟩ ⟨b.val % 16, by omega⟩ r l b hb]
  refine (addf_apply _ _ _).trans ?_
  rw [loadGroup_apply _ _ _ ⟨b.val / 16, by omega⟩ ⟨b.val % 16, by omega⟩ r l b hb, stepSums_apply,
    scratch_even_apply m c t' (by omega)]
  rw [← hb]
  rfl

/-- The constant 196608, the number of pixels of an image. -/
theorem ofBits_pixels : Ideal.ofBits .f32 0x48400000#32 = ((196608 : ℝ) : EReal) := by
  simp [Ideal.ofBits, Ideal.ieee, -EReal.coe_mul]; norm_num

/-- The output block computed from the scratch buffer: the pixel count less the sum over rows and lanes. -/
theorem pay4_apply (v : Vec Ideal S256x8x128 .f32) (b : Fin 256) :
    k0_pay4 v (ix3 0 0 b) = ((196608 : ℝ) : EReal) - ∑ l : Fin 128, ∑ r : Fin 8, v (ix3 b r l) := by
  pointwise [k0_pay4, ofBits_pixels]

/-- What the second step of an image leaves in the output block. -/
theorem out_odd_apply (c : Dev nD) (t t' : Fin cfg0.N) (h : t.val % 2 = 1) (ht : t'.val = t.val - 1) (b : Fin 256) :
    (outsAt0 m c t.val t.isLt).1 (ix3 0 0 b)
      = ((196608 : ℝ) : EReal)
        - ∑ l : Fin 128, ∑ r : Fin 8, (laneSum m c t' b.val r l + laneSum m c t b.val r l) := by
  refine (congrFun (contents_odd m c t t' h ht).2 _).trans ((pay4_apply _ b).trans
    (congrArg (((196608 : ℝ) : EReal) - ·) ?_))
  exact Finset.sum_congr rfl fun l _ => Finset.sum_congr rfl fun r _ => scratch_odd_apply m c t t' h ht b r l

end Cert.KernelIdeal.Hist
-- ==== Proof.Launch.lean ====
module

public import proofs.«01_k».proof.Proof.Step
public import Idealize.ShloMosaic.Lib.Claim

/-!
# The histogram kernel's whole launch

Grid point `2 j + k` is step `k` of image `j`.  Its input block is half `k` of the image's 1536 rows of 128 pixels, and
the second step of image `j` writes row `j` of the region's output array.  The host reshapes the images before the
launch and drops the output array's unit axis after it.
-/

set_option maxRecDepth 16384

@[expose] public section

noncomputable section

namespace Cert.KernelIdeal.Hist

open Idealize.ShloMosaic Idealize.ShloMosaic.TcCoe
open Idealize.SL Idealize.SL.Sem
open Cert.KernelIdeal.Gen

section Arrays

variable {F : FTy → Type} [FloatOps F]
variable (m : (ℓ : Loc nD τ sig) → Buf (Elt F) ℓ)

/-- The grid point of step `k` of image `j`. -/
def pointOf (j : Fin 8) (k : Fin 2) : Fin cfg0.N :=
  ⟨2 * j.val + k.val, lt_of_lt_of_eq (by omega) N_0.symm⟩

/-- The input block of step `k` of image `j` is block `(j, k, 0)` of the input array. -/
theorem index_in : ∀ (j : Fin 8) (k : Fin 2), win0_0.index (pointOf j k) = ![j.val, k.val, 0] := by
  decide +kernel

/-- The output block of either step of image `j` is block `(j, 0, 0)` of the output array. -/
theorem index_out : ∀ (j : Fin 8) (k : Fin 2), win0_1.index (pointOf j k) = ![j.val, 0, 0] := by
  decide +kernel

/-- The images as the launch finds them: the host's reshape to rows of 128 pixels. -/
def rows (c : Dev nD) : Vec F S8x1536x128 .f32 :=
  shapeCast S8x1536x128 (m ((c : Thread nD τ).loc main_arg0)) shapeCasts_S8x3x256x256_S8x1536x128

/-- The host's first line leaves the reshaped images in the input array. -/
theorem entry_rows (c : Dev nD) : V m c main_v0 = rows m c := by
  entry_read
  rfl

/-- Row `q` of the block of step `k` of image `j` is row `768 k + q` of the image. -/
theorem block_apply (c : Dev nD) (j : Fin 8) (k : Fin 2) (q : Fin 768) (l : Fin 128) (w : Fin 1536)
    (hw : w.val = 768 * k.val + q.val) :
    (iblk m c 0 (pointOf j k) : Vec F S1x768x128 .f32) (ix3 0 q l) = rows m c (ix3 j w l) := by
  rw [← entry_rows]
  have hidx := index_in j k
  have h0 : win0_0.index (pointOf j k) (0 : Fin 3) = j.val := congrFun hidx 0
  have h1 : win0_0.index (pointOf j k) (1 : Fin 3) = k.val := congrFun hidx 1
  have h2 : win0_0.index (pointOf j k) (2 : Fin 3) = 0 := congrFun hidx 2
  refine congrArg (V m c main_v0) (funext fun a => Fin.ext ?_)
  match a with
  | ⟨0, _⟩ => show win0_0.index (pointOf j k) (0 : Fin 3) * 1 + 1 * 0 = j.val; omega
  | ⟨1, _⟩ => show win0_0.index (pointOf j k) (1 : Fin 3) * 768 + 1 * q.val = w.val; omega
  | ⟨2, _⟩ => show win0_0.index (pointOf j k) (2 : Fin 3) * 128 + 1 * l.val = l.val; omega

/-- What the second step of image `j` leaves for bin `b`. -/
def outAt (c : Dev nD) (j : Fin 8) (b : Fin 256) : Elt F .f32 :=
  (outsAt0 m c (pointOf j 1).val (pointOf j 1).isLt).1 (ix3 0 0 b)

/-- The output array after the launch. -/
def outArr (c : Dev nD) : Vec F S8x1x256 .f32 := fun i => outAt m c (i 0) (i 2)

/-- A point that writes its output block back is the second step of an image. -/
theorem flush_point (t : Fin cfg0.N) (hf : (cfg0.win 1).flush t = true) : ∃ j : Fin 8, t = pointOf j 1 := by
  have hm : t.val % 2 = 1 := (flush0_1 t).mp hf
  have hlt : t.val < 16 := lt_of_lt_of_eq t.isLt N_0
  exact ⟨⟨t.val / 2, by omega⟩, Fin.ext (by show t.val = 2 * (t.val / 2) + 1; omega)⟩

/-- Each block written back is the output array's block there. -/
theorem flushed_out (c : Dev nD) (t : Fin cfg0.N) (hf : (cfg0.win 1).flush t = true) :
    (dats m 0 c).flushed 1 t = ((cfg0.win 1).blk t).view.read (Elt F) (outArr m c) := by
  obtain ⟨j, rfl⟩ := flush_point t hf
  show (cfg0.win 1).cut (grid0.coords (pointOf j 1)) ((dats m 0 c).after 1 (pointOf j 1)) = _
  rw [after0_1]
  have hidx := index_out j 1
  have h0 : win0_1.index (pointOf j 1) (0 : Fin 3) = j.val := congrFun hidx 0
  have h2 : win0_1.index (pointOf j 1) (2 : Fin 3) = 0 := congrFun hidx 2
  funext y
  have hy0 : (y 0).val < 1 := (y 0).isLt
  have hy1 : (y 1).val < 1 := (y 1).isLt
  have hy2 : (y 2).val < 256 := (y 2).isLt
  have e0 : (((cfg0.win 1).blk (pointOf j 1)).view.emb y 0 : Fin 8) = j :=
    Fin.ext (by show win0_1.index (pointOf j 1) (0 : Fin 3) * 1 + 1 * (y 0).val = j.val; omega)
  have e2 : (((cfg0.win 1).blk (pointOf j 1)).view.emb y 2 : Fin 256) = ⟨(y 2).val, hy2⟩ :=
    Fin.ext (by show win0_1.index (pointOf j 1) (2 : Fin 3) * 256 + 1 * (y 2).val = (y 2).val; omega)
  have ex : (cfg0.win 1).xinj (grid0.coords (pointOf j 1)) y = (ix3 0 0 ⟨(y 2).val, hy2⟩ : S1x1x256.Idx) := by
    funext a
    apply Fin.ext
    match a with
    | ⟨0, _⟩ => show (y 0).val = 0; omega
    | ⟨1, _⟩ => show (y 1).val = 0; omega
    | ⟨2, _⟩ => rfl
  show (outsAt0 m c (pointOf j 1).val (pointOf j 1).isLt).1 ((cfg0.win 1).xinj (grid0.coords (pointOf j 1)) y)
    = outAt m c (((cfg0.win 1).blk (pointOf j 1)).view.emb y 0) (((cfg0.win 1).blk (pointOf j 1)).view.emb y 2)
  rw [ex, e0, e2]
  rfl

/-- Every index of the output array lies in a block written back. -/
theorem covered_out (i : S8x1x256.Idx) :
    ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 256 := (i 2).isLt
  have hidx := index_out ⟨(i 0).val, hi0⟩ 1
  have h0 : win0_1.index (pointOf ⟨(i 0).val, hi0⟩ 1) (0 : Fin 3) = (i 0).val := congrFun hidx 0
  have h1 : win0_1.index (pointOf ⟨(i 0).val, hi0⟩ 1) (1 : Fin 3) = 0 := congrFun hidx 1
  have h2 : win0_1.index (pointOf ⟨(i 0).val, hi0⟩ 1) (2 : Fin 3) = 0 := congrFun hidx 2
  refine ⟨pointOf ⟨(i 0).val, hi0⟩ 1, (flush0_1 _).mpr (by show (2 * (i 0).val + 1) % 2 = 1; omega), ?_⟩
  show i ∈ ((View.whole main_v1).slice (win0_1.rect (pointOf ⟨(i 0).val, hi0⟩ 1))).set
  rw [View.set_slice_whole, Rect.mem_set_unit]
  intro a
  match a with
  | ⟨0, _⟩ =>
    show win0_1.index (pointOf ⟨(i 0).val, hi0⟩ 1) (0 : Fin 3) * 1 ≤ (i 0).val
      ∧ (i 0).val < win0_1.index (pointOf ⟨(i 0).val, hi0⟩ 1) (0 : Fin 3) * 1 + 1
    omega
  | ⟨1, _⟩ =>
    show win0_1.index (pointOf ⟨(i 0).val, hi0⟩ 1) (1 : Fin 3) * 1 ≤ (i 1).val
      ∧ (i 1).val < win0_1.index (pointOf ⟨(i 0).val, hi0⟩ 1) (1 : Fin 3) * 1 + 1
    omega
  | ⟨2, _⟩ =>
    show win0_1.index (pointOf ⟨(i 0).val, hi0⟩ 1) (2 : Fin 3) * 256 ≤ (i 2).val
      ∧ (i 2).val < win0_1.index (pointOf ⟨(i 0).val, hi0⟩ 1) (2 : Fin 3) * 256 + 256
    omega

/-- The output array after every write-back. -/
theorem final_out (c : Dev nD) : (dats m 0 c).arrAt 1 cfg0.N = outArr m c :=
  (dats m 0 c).arrAt_eq_of_cover 1 _ (fun t hf => flushed_out m c t hf) covered_out

/-- The kernel's result: the output array without its unit axis. -/
def result (c : Dev nD) : Vec F S8x256 .f32 := shapeCast S8x256 (outArr m c) shapeCasts_S8x1x256_S8x256

/-- The host's last line leaves the reshaped output array in the result. -/
theorem tail_result (c : Dev nD) :
    Pipeline.afterTail₀ cfgs (dats m) 0 (V0 m) [hostOps1] c main_v2 = result m c := by
  have hA := Pipeline.withArrays_arr spec0 launch0.win.arr_inj c (V0 m c)
    (fun w => (dats m 0 c).arrAt w (cfgs 0).N) 1
  unfold Pipeline.afterTail₀
  simp only [hostOps1, List.flatten_cons, List.flatten_nil, List.append_nil]
  after_results
  exact congrArg (fun v => shapeCast S8x256 v shapeCasts_S8x1x256_S8x256) (hA.trans (final_out m c))

/-- Every execution of the program ends with the result above and the arguments unchanged. -/
theorem run_result (ρ : Dev nD → PrngReg) :
    θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c =>
      ⟨((h c).2 main_v2 (Pipeline.mem_restRefs_of main_v2 (by decide) (by decide))).trans (tail_result m c),
        ((h c).2 main_arg0 (Pipeline.mem_restRefs_of main_arg0 (by decide) (by decide))).trans
          (W_main_arg0 m (dats m) c),
        ((h c).2 main_arg1 (Pipeline.mem_restRefs_of main_arg1 (by decide) (by decide))).trans
          (W_main_arg1 m (dats m) c)⟩)
    (run_main m ρ)

end Arrays

/-! ## The result at an entry -/

variable (m : (ℓ : Loc nD τ sig) → Buf (Elt Ideal) ℓ)

/-- Entry `(j, b)` of the result: the pixel count less the clamped distances from bin `b` of all the pixels of image
`j`, added lane by lane, row of a slab by row of a slab, half by half. -/
theorem result_apply (c : Dev nD) (j : Fin 8) (b : Fin 256) :
    result m c (ix2 j b) = ((196608 : ℝ) : EReal)
      - ∑ l : Fin 128, ∑ r : Fin 8, ∑ k : Fin 2, ∑ s : Fin 96,
          dist (rows m c (ix3 j (⟨768 * k.val + (8 * s.val + r.val), by omega⟩ : Fin 1536) l)) b.val := by
  have hres : result m c (ix2 j b) = outAt m c j b := by
    pointwise [result, outArr]
  have hlane : ∀ (k : Fin 2) (r : Fin 8) (l : Fin 128), laneSum m c (pointOf j k) b.val r l
      = ∑ s : Fin 96, dist (rows m c (ix3 j (⟨768 * k.val + (8 * s.val + r.val), by omega⟩ : Fin 1536) l)) b.val :=
    fun k r l => Finset.sum_congr rfl fun s _ =>
      congrArg (fun x => dist x b.val) (block_apply m c j k ⟨8 * s.val + r.val, by omega⟩ l _ rfl)
  rw [hres]
  unfold outAt
  rw [out_odd_apply m c (pointOf j 1) (pointOf j 0) (by show (2 * j.val + 1) % 2 = 1; omega) rfl]
  refine congrArg (((196608 : ℝ) : EReal) - ·) ?_
  refine Finset.sum_congr rfl fun l _ => Finset.sum_congr rfl fun r _ => ?_
  rw [hlane, hlane, Fin.sum_univ_two]

end Cert.KernelIdeal.Hist
-- ==== Proof.Equation.lean ====
module

public import proofs.«01_k».proof.Proof.Step

/-!
# The arithmetic of the histogram

A pixel's weight at a bin is one less its clamped distance from the bin, at every pixel value, the two infinities
included.  The distances are finite, so the weights of an image's pixels add up to the pixel count less the sum of the
distances, in whatever order those are added.
-/

@[expose] public section

noncomputable section

namespace Cert.KernelIdeal.Hist

open Idealize.ShloMosaic

/-- The weight of a pixel `x` at a bin whose center is `b / 255` and whose width is `1 / 255`. -/
def weight (x : EReal) (b : ℕ) : EReal :=
  max (1 - Ideal.div (max (x - (((b : ℝ) / 255 : ℝ) : EReal)) (-(x - (((b : ℝ) / 255 : ℝ) : EReal))))
    ((1 / 255 : ℝ) : EReal)) 0

/-- The clamped distance is a real number. -/
theorem dist_finite (x : EReal) (b : ℕ) : ∃ d : ℝ, dist x b = (d : EReal) := by
  have h0 : (0 : EReal) ≤ dist x b := by
    refine le_min ?_ zero_le_one
    rcases le_total 0 (x * ((255 : ℝ) : EReal) - ((b : ℝ) : EReal)) with h | h
    · exact le_max_of_le_left h
    · exact le_max_of_le_right (EReal.neg_nonneg.mpr h)
  have h1 : dist x b ≤ 1 := min_le_right _ _
  refine ⟨(dist x b).toReal, (EReal.coe_toReal ?_ ?_).symm⟩
  · exact ne_of_lt (h1.trans_lt (EReal.coe_lt_top 1))
  · exact ne_of_gt ((EReal.bot_lt_coe 0).trans_le h0)

/-- A weight is one less a clamped distance. -/
theorem weight_eq (x : EReal) (b : ℕ) : weight x b = 1 - dist x b := by
  have hinv : (1 / (1 / 255 : ℝ) : ℝ) = 255 := by norm_num
  unfold weight dist
  rw [Ideal.div_coe (by norm_num), hinv]
  have h1 : (1 : EReal) - 1 = 0 := by
    show ((1 : ℝ) : EReal) - ((1 : ℝ) : EReal) = ((0 : ℝ) : EReal)
    rw [← EReal.coe_sub, sub_self]
  have htop : (⊤ : EReal) * ((255 : ℝ) : EReal) = ⊤ := EReal.top_mul_coe_of_pos (by norm_num)
  have hbot : (⊥ : EReal) * ((255 : ℝ) : EReal) = ⊥ := EReal.bot_mul_coe_of_pos (by norm_num)
  have hmax : ∀ u v : ℝ, ((max u v : ℝ) : EReal) = max (u : EReal) v :=
    fun u v => EReal.coe_strictMono.monotone.map_max
  have hmin : ∀ u v : ℝ, ((min u v : ℝ) : EReal) = min (u : EReal) v :=
    fun u v => EReal.coe_strictMono.monotone.map_min
  induction x with
  | bot =>
    rw [hbot, EReal.bot_sub, EReal.bot_sub, EReal.neg_bot, max_eq_right bot_le, htop, min_eq_right le_top, h1,
      EReal.sub_top, max_eq_right bot_le]
  | top =>
    rw [htop, EReal.top_sub_coe, EReal.top_sub_coe, max_eq_left le_top, htop, min_eq_right le_top, h1,
      EReal.sub_top, max_eq_right bot_le]
  | coe x =>
    have hr : max (1 - max (x - (b : ℝ) / 255) (-(x - (b : ℝ) / 255)) * 255) 0
        = 1 - min (max (x * 255 - (b : ℝ)) (-(x * 255 - (b : ℝ)))) 1 := by
      have hm : max (x - (b : ℝ) / 255) (-(x - (b : ℝ) / 255)) * 255
          = max (x * 255 - (b : ℝ)) (-(x * 255 - (b : ℝ))) := by
        rw [max_mul_of_nonneg _ _ (by norm_num : (0 : ℝ) ≤ 255)]
        congr 1 <;> ring
      rw [hm]
      rcases le_total (max (x * 255 - (b : ℝ)) (-(x * 255 - (b : ℝ)))) 1 with h | h
      · rw [min_eq_left h, max_eq_left (by linarith)]
      · rw [min_eq_right h, max_eq_right (by linarith)]; norm_num
    have := congrArg (fun r : ℝ => (r : EReal)) hr
    simpa only [hmax, hmin, EReal.coe_sub, EReal.coe_neg, EReal.coe_mul, EReal.coe_one,
      EReal.coe_zero] using this

/-- The pixels of an image, told by lane, row of a slab, half and slab. -/
def pixelEquiv : Fin 128 × Fin 8 × Fin 2 × Fin 96 ≃ Fin 196608 where
  toFun q := ⟨(768 * q.2.2.1.val + (8 * q.2.2.2.val + q.2.1.val)) * 128 + q.1.val, by omega⟩
  invFun n := (⟨n.val % 128, by omega⟩, ⟨n.val / 128 % 8, by omega⟩, ⟨n.val / 98304, by omega⟩,
    ⟨n.val / 1024 % 96, by omega⟩)
  left_inv := by
    rintro ⟨l, r, k, s⟩
    refine Prod.ext (Fin.ext ?_) (Prod.ext (Fin.ext ?_) (Prod.ext (Fin.ext ?_) (Fin.ext ?_)))
    · show ((768 * k.val + (8 * s.val + r.val)) * 128 + l.val) % 128 = l.val
      omega
    · show ((768 * k.val + (8 * s.val + r.val)) * 128 + l.val) / 128 % 8 = r.val
      omega
    · show ((768 * k.val + (8 * s.val + r.val)) * 128 + l.val) / 98304 = k.val
      omega
    · show ((768 * k.val + (8 * s.val + r.val)) * 128 + l.val) / 1024 % 96 = s.val
      omega
  right_inv := by
    intro n
    refine Fin.ext ?_
    show (768 * (n.val / 98304) + (8 * (n.val / 1024 % 96) + n.val / 128 % 8)) * 128 + n.val % 128 = n.val
    omega

/-- A sum over an image's pixels, added in the kernel's order. -/
theorem sum_pixels (f : Fin 196608 → EReal) :
    ∑ n, f n = ∑ l : Fin 128, ∑ r : Fin 8, ∑ k : Fin 2, ∑ s : Fin 96,
      f ⟨(768 * k.val + (8 * s.val + r.val)) * 128 + l.val, by omega⟩ := by
  rw [← Equiv.sum_comp pixelEquiv f]
  simp only [Fintype.sum_prod_type]
  rfl

/-- Finite extended reals taken from one and added up: the number of them less their sum. -/
theorem sum_one_sub {ι : Type} (s : Finset ι) (d : ι → EReal) (hd : ∀ i, ∃ r : ℝ, d i = (r : EReal)) :
    ∑ i ∈ s, (1 - d i) = ((s.card : ℝ) : EReal) - ∑ i ∈ s, d i := by
  choose r hr using hd
  classical
  have hsum : ∀ t : Finset ι, ∑ i ∈ t, d i = ((∑ i ∈ t, r i : ℝ) : EReal)
      ∧ ∑ i ∈ t, (1 - d i) = ((∑ i ∈ t, (1 - r i) : ℝ) : EReal) := by
    intro t
    induction t using Finset.induction_on with
    | empty => simp
    | insert a t ha ih =>
      rw [Finset.sum_insert ha, Finset.sum_insert ha, Finset.sum_insert ha, Finset.sum_insert ha, ih.1, ih.2, hr a]
      exact ⟨by push_cast; rfl, by push_cast; rfl⟩
  rw [(hsum s).1, (hsum s).2, ← EReal.coe_sub, Finset.sum_sub_distrib]
  simp

/-- The weights of an image's pixels at a bin add up to the pixel count less the pixels' clamped distances. -/
theorem sum_weight (p : Fin 196608 → EReal) (b : ℕ) :
    ∑ n, weight (p n) b = ((196608 : ℝ) : EReal)
      - ∑ l : Fin 128, ∑ r : Fin 8, ∑ k : Fin 2, ∑ s : Fin 96,
          dist (p ⟨(768 * k.val + (8 * s.val + r.val)) * 128 + l.val, by omega⟩) b := by
  rw [← sum_pixels fun n => dist (p n) b, Finset.sum_congr rfl fun n _ => weight_eq (p n) b,
    sum_one_sub _ _ fun n => dist_finite (p n) b]
  simp

end Cert.KernelIdeal.Hist
-- ==== Proof.Reference.lean ====
module

public import proofs.«01_k».proof.Proof.Equation
public import proofs.«01_k».proof.Proof.Gen.ReferenceIdeal
public import proofs.«01_k».proof.Proof.Gen.ReferenceIdeal.Run
public import proofs.«01_k».proof.Proof.Gen.Pre_centers_are_the_grid
public import Idealize.ShloMosaic.Lib.IdealHost

/-!
# The reference's result

With the bin centers on the grid `b / 255`, an entry of the reference's result is the sum of the pixels' weights.
-/

set_option maxRecDepth 16384

@[expose] public section

noncomputable section

namespace Cert.ReferenceIdeal.Hist

open Idealize.ShloMosaic Idealize.ShloMosaic.TcCoe
open Cert.ReferenceIdeal Cert.ReferenceIdeal.Facts₀
open Cert.KernelIdeal.Hist (weight ofBits_255)

/-- One divided by 255, as an extended real. -/
theorem width_eq : Ideal.div 1 ((255 : ℝ) : EReal) = ((1 / 255 : ℝ) : EReal) := by
  rw [Ideal.div_coe (by norm_num), one_mul]

/-- The bin centers the precondition allows: center `b` is `b / 255`. -/
theorem center_eq (x : FVec Ideal S8x3x256x256 .f32) (centers : FVec Ideal S256 .f32)
    (h : Cert.Pre_centers_are_the_grid.fn (F := Ideal) x centers = fun _ => 1#1) (b : Fin 256) :
    centers (ix1 b) = (((b.val : ℝ) / 255 : ℝ) : EReal) := by
  have hb := congrFun h (ix1 b)
  pointwise [Cert.Pre_centers_are_the_grid.fn, ofBits_255] at hb
  have hnat : (BitVec.ofNat 32 b.val).toInt = (b.val : ℤ) := by
    rw [BitVec.toInt_eq_toNat_of_lt] <;> rw [BitVec.toNat_ofNat] <;> omega
  have hint : FloatOps.sitofp (F := Ideal) .f32 (BitVec.ofNat 32 b.val) = ((b.val : ℝ) : EReal) := by
    show (((BitVec.ofNat 32 b.val).toInt : ℝ) : EReal) = _
    rw [hnat, Int.cast_natCast]
  rw [hint, Ideal.div_coe (by norm_num), ← EReal.coe_mul] at hb
  have hq : centers (ix1 b) = (((b.val : ℝ) * (1 / 255) : ℝ) : EReal) := by
    by_contra hne
    rw [decide_eq_false hne] at hb
    exact absurd hb (by decide)
  rw [hq, mul_one_div]

/-- The reference's result as an array of its arguments. -/
def value (x : FVec Ideal S8x3x256x256 .f32) (centers : FVec Ideal S256 .f32) : FVec Ideal S8x256 .f32 :=
  Host.reduceAdd
    (maximumf
      (subf (broadcastInDim S8x196608x256 ![] bcast_S_S8x196608x256 (constant S_ .f32 0x3F800000#32))
        (Host.divf
          (Host.absf
            (subf
              (broadcastInDim S8x196608x256 ![0, 1, 2] bcast_S8x196608x1_S8x196608x256_0_1_2
                (shapeCast S8x196608x1 x shapeCasts_S8x3x256x256_S8x196608x1))
              (broadcastInDim S8x196608x256 ![0, 1, 2] bcast_S1x1x256_S8x196608x256_0_1_2
                (broadcastInDim S1x1x256 ![2] bcast_S256_S1x1x256_2 centers))))
          (broadcastInDim S8x196608x256 ![] bcast_S_S8x196608x256
            (Host.divf (constant S_ .f32 0x3F800000#32) (constant S_ .f32 0x437F0000#32)))))
      (broadcastInDim S8x196608x256 ![] bcast_S_S8x196608x256 (constant S_ .f32 0x00000000#32)))
    (constant S_ .f32 0x00000000#32) reducesTo_S8x196608x256_S8x256_d1 h_S_

/-- Entry `(j, b)` of the reference's result at centers `b / 255`: the sum of the weights of the pixels of image `j`. -/
theorem value_apply (x : FVec Ideal S8x3x256x256 .f32) (centers : FVec Ideal S256 .f32) (j : Fin 8) (b : Fin 256)
    (hc : centers (ix1 b) = (((b.val : ℝ) / 255 : ℝ) : EReal)) :
    value x centers (ix2 j b)
      = ∑ n : Fin 196608, weight (shapeCast S8x196608x1 x shapeCasts_S8x3x256x256_S8x196608x1 (ix3 j n 0)) b.val := by
  unfold weight
  rw [← hc]
  pointwise [value, ofBits_255]
  rw [width_eq]
  rfl

/-- Pixel `128 w + l` of an image is lane `l` of its row `w` of 128 pixels. -/
theorem pixel_apply (x : FVec Ideal S8x3x256x256 .f32) (h : S8x3x256x256.ShapeCasts Cert.KernelIdeal.S8x1536x128)
    (j : Fin 8) (w : Fin 1536) (l : Fin 128) (n : Fin 196608) (hn : n.val = w.val * 128 + l.val) :
    shapeCast S8x196608x1 x shapeCasts_S8x3x256x256_S8x196608x1 (ix3 j n 0)
      = shapeCast Cert.KernelIdeal.S8x1536x128 x h (ix3 j w l) := by
  have hcast : Cert.KernelIdeal.S8x1536x128.ShapeCasts S8x196608x1 := by decide
  rw [← shapeCast_comp x h hcast]
  refine shapeCast_apply _ _ _ _ ?_
  rw [Shape.rowMajor_val_three, Shape.rowMajor_val_three]
  show (j.val * 1536 + w.val) * 128 + l.val = (j.val * 196608 + n.val) * 1 + 0
  omega

end Cert.ReferenceIdeal.Hist
-- ==== Proof.lean ====
/-
  The proof of `Cert.Claim` (Defs.lean).

  The frames of the kernel and of its reading at the extended reals are the generated ones; the reference has no
  semaphore and its frame is read off its run. The value claim joins three facts: what the kernel's launch leaves at an
  entry (Launch.lean, from one step's work in Pieces.lean and Step.lean), what the reference leaves there
  (Reference.lean), and the equation between the two sums (Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_centers_are_the_grid
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The value equation: where the bin centers are the grid, the kernel's result is the reference's. -/
theorem result_eq (m : (ℓ : Loc Cert.KernelIdeal.nD Cert.KernelIdeal.τ Cert.KernelIdeal.sig) → Buf (Elt Ideal) ℓ)
    (hpre : Cert.Pre_KernelIdeal_centers_are_the_grid (hPre_centers_are_the_grid := Cert.Pre_centers_are_the_grid.Gen.facts) m)
    (c : Dev Cert.KernelIdeal.nD) :
    Cert.ReferenceIdeal.Hist.value
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Hist.result m c := by
  funext i
  obtain ⟨j, b, rfl⟩ : ∃ (j : Fin 8) (b : Fin 256), i = (ix2 j b : Cert.KernelIdeal.S8x256.Idx) :=
    ⟨i 0, i 1, ValueIdx.eq_ix2 i⟩
  refine (Cert.ReferenceIdeal.Hist.value_apply _ _ j b (Cert.ReferenceIdeal.Hist.center_eq _ _ (hpre c) b)).trans ?_
  rw [Cert.KernelIdeal.Hist.sum_weight, Cert.KernelIdeal.Hist.result_apply]
  refine congrArg (((196608 : ℝ) : EReal) - ·) ?_
  refine Finset.sum_congr rfl fun l _ => Finset.sum_congr rfl fun r _ => Finset.sum_congr rfl fun k _ =>
    Finset.sum_congr rfl fun s _ => congrArg (fun x => Cert.KernelIdeal.Hist.dist x b.val) ?_
  exact Cert.ReferenceIdeal.Hist.pixel_apply _ _ j _ l _ rfl

/-- The kernel and the reference, run from memories that agree on the arguments, end with equal results. -/
theorem algebraic :
    Cert.algebraic_KernelIdeal_ReferenceIdeal_pre_centers_are_the_grid
      (hKernelIdeal := Cert.KernelIdeal.Gen.facts) (hReferenceIdeal := Cert.ReferenceIdeal.Gen.facts)
      (hPre_centers_are_the_grid := Cert.Pre_centers_are_the_grid.Gen.facts) := by
  intro m g m' g' hpre hagree
  refine ⟨fun c => Cert.KernelIdeal.Hist.result m c, Cert.KernelIdeal.Hist.run_result m g,
    (θ_run _ _ _).mono (fun r h c => ⟨(h c).1.trans ?_, (h c).2⟩) (Cert.ReferenceIdeal.Value.run m' g')⟩
  rw [(hagree c).1, (hagree c).2]
  exact result_eq m hpre c

/-- The reference ends with its arguments unchanged and, having no semaphore, with every counter at zero. -/
theorem frame_reference : Cert.quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩)
    (Cert.ReferenceIdeal.Value.run m g)

/-- Everything claimed of the kernel, its reading at the extended reals and the reference. -/
theorem claim : Cert.Claim :=
  ⟨Cert.Kernel.Gen.facts, Cert.KernelIdeal.Gen.facts, Cert.ReferenceIdeal.Gen.facts,
    Cert.Pre_centers_are_the_grid.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
